-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S20000x128 : Shape := ⟨2, ![20000, 128]⟩

abbrev nBuf : Space → Nat
  | .hbm => 10
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S1x128, .f32⟩
  | .hbm, ⟨9, _⟩ => ⟨S100000x128, .f32⟩
  | .local _ .vmem, ⟨0, _⟩ => ⟨S20000x128, .f32⟩
  | .local _ .vmem, ⟨1, _⟩ => ⟨S20000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S20000x128, .f32⟩
  | .local _ .vmem, ⟨7, _⟩ => ⟨S20000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .f32⟩
  | .hbm, ⟨13, _⟩ => ⟨S128x128, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Mlp.Spec.lean ====
/-
  What the two-layer perceptron computes, over the extended reals, as plain sums over coordinates:
  `relu(x W₁ᵀ + b₁) W₂ᵀ + b₂`. Both programs are compared with this one function.
-/
module

public import Idealize.ShloMosaic.PureOps.Ideal
public import Idealize.ShloMosaic.Lib.ValueIdx

@[expose] public section

noncomputable section

namespace Cert.Proof.Mlp

open Idealize.ShloMosaic Idealize.ShloMosaic.ValueIdx
open scoped BigOperators

/-- A matrix of extended reals. -/
abbrev Mat (n k : Nat) : Type := (⟨2, ![n, k]⟩ : Shape).Idx → EReal

/-- A vector of extended reals. -/
abbrev Vct (n : Nat) : Type := (⟨1, ![n]⟩ : Shape).Idx → EReal

variable {n d h o : Nat}

/-- The hidden activation of row `r` at unit `k`: `max (Σ_l x[r,l]·W₁[k,l] + b₁[k]) 0`. -/
def hidden (x : Mat n d) (W1 : Mat h d) (b1 : Vct h) (r : Fin n) (k : Fin h) : EReal :=
  max ((∑ l : Fin d, x (ix2 r l) * W1 (ix2 k l)) + b1 (ix1 k)) 0

/-- The output at row `r`, column `j`: `Σ_k hidden[r,k]·W₂[j,k] + b₂[j]`. -/
def out (x : Mat n d) (W1 : Mat h d) (b1 : Vct h) (W2 : Mat o h) (b2 : Vct o) (r : Fin n) (j : Fin o) : EReal :=
  (∑ k : Fin h, hidden x W1 b1 r k * W2 (ix2 j k)) + b2 (ix1 j)

/-- The whole output array. -/
def mlp (x : Mat n d) (W1 : Mat h d) (b1 : Vct h) (W2 : Mat o h) (b2 : Vct o) : Mat n o :=
  fun i => out x W1 b1 W2 b2 (i 0) (i 1)

end Cert.Proof.Mlp

end
-- ==== Proof.Mlp.Block.lean ====
/-
  What ONE grid step of the kernel computes of the blocks it is given, over the extended reals: each entry of the stored
  block is the two nested sums, the weights being read as they were transposed and the biases as one-row matrices.
-/
module

public import proofs.«01_k».proof.Proof.Gen.KernelIdeal.Value
public import proofs.«01_k».proof.Proof.Mlp.Spec
public import Idealize.ShloMosaic.Lib.ValueLayout
public import Idealize.ShloMosaic.PureOps.Ideal.Laws

@[expose] public section

noncomputable section

namespace Cert.Proof.Mlp

open Idealize.ShloMosaic Idealize.ShloMosaic.ValueIdx
open Cert.KernelIdeal Cert.KernelIdeal.Gen
open scoped BigOperators

/-- The dimension numbers of both products of a step: `[20000,128] · [128,128]`, the inner axes contracted. -/
abbrev Dk := dot_S20000x128_S128x128_S20000x128_1_0_0_1_n_n

theorem Dk_lhs (r : Fin 20000) (j k : Fin 128) :
    Dk.lhsIdx (ix2 r j) ((contrEquiv1 Dk 128 rfl rfl).symm k) = ix2 r k := by
  refine Shape.idx_ext₂ ?_ ?_
  · simp [DotDims.lhsIdx, Dk, dot_S20000x128_S128x128_S20000x128_1_0_0_1_n_n]; rfl
  · exact (Dk.lhsIdx_val_of_single rfl _ _).trans (contrEquiv1_symm_val Dk 128 rfl rfl k)

theorem Dk_rhs (r : Fin 20000) (j k : Fin 128) :
    Dk.rhsIdx (ix2 r j) ((contrEquiv1 Dk 128 rfl rfl).symm k) = ix2 k j := by
  refine Shape.idx_ext₂ ?_ ?_
  · exact (Dk.rhsIdx_val_of_single rfl _ _).trans (contrEquiv1_symm_val Dk 128 rfl rfl k)
  · simp [DotDims.rhsIdx, Dk, dot_S20000x128_S128x128_S20000x128_1_0_0_1_n_n]; rfl

/-- A product of a step with a zero accumulator, read at row `r` and column `j`: the sum over the inner axis. -/
theorem matmul_step (a : FVec Ideal S20000x128 .f32) (w : FVec Ideal S128x128 .f32) (r : Fin 20000) (j : Fin 128) :
    matmul Dk none a w (constant S20000x128 .f32 0x00000000#32) (ix2 r j) = ∑ k : Fin 128, a (ix2 r k) * w (ix2 k j) := by
  refine (Ideal.matmul_constant_zero_apply Dk none a w (ix2 r j)).trans ?_
  rw [← Equiv.sum_comp (contrEquiv1 Dk 128 rfl rfl).symm]
  exact Finset.sum_congr rfl fun k _ => by rw [Dk_lhs, Dk_rhs]

/-- THE STEP: entry `(r, j)` of the block that a grid step stores. -/
theorem pay_apply (x : FVec Ideal S20000x128 .f32) (w1t : FVec Ideal S128x128 .f32) (b1 : FVec Ideal S1x128 .f32)
    (w2t : FVec Ideal S128x128 .f32) (b2 : FVec Ideal S1x128 .f32) (r : Fin 20000) (j : Fin 128) :
    k0_pay1 (F := Ideal) x w1t b1 w2t b2 (ix2 r j)
      = (∑ k : Fin 128, max ((∑ l : Fin 128, x (ix2 r l) * w1t (ix2 l k)) + b1 (ix2 0 k)) 0 * w2t (ix2 k j)) + b2 (ix2 0 j) := by
  unfold k0_pay1
  rw [shapeCast_self, shapeCast_self, shapeCast_self, shapeCast_self, addf_apply, matmul_step, broadcastTo_1b_ab_apply]
  congr 1
  refine Finset.sum_congr rfl fun k _ => ?_
  rw [maximumf_apply, addf_apply, matmul_step, broadcastTo_1b_ab_apply, broadcast_apply]
  congr 2
  exact Ideal.ofBits_zero_f32

end Cert.Proof.Mlp

end
-- ==== Proof.Mlp.Array.lean ====
/-
  What the kernel's result array holds after the run, over the extended reals. The host transposes the two weights and
  makes one-row matrices of the two biases; grid step `t` reads rows `20000·t …` of `x` and the whole of the other four
  arrays, and writes rows `20000·t …` of the result. So the array is `mlp` of the five arguments.
-/
module

public import proofs.«01_k».proof.Proof.Mlp.Block
public import Idealize.ShloMosaic.Lib.Pipeline.ValueKit
public import Idealize.ShloMosaic.Lib.StableHlo.Run

@[expose] public section

noncomputable section

namespace Cert.Proof.Mlp

open Idealize.ShloMosaic hiding ix1 ix2 eq_ix2
open Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (c : Dev nD)

/-! ### The host operations before the grid -/

/-- The first layer's weights, as the grid finds them, are transposed. -/
theorem V_w1 (l k : Fin 128) : V m c main_v0 (ix2 l k) = m ((c : Thread nD τ).loc main_arg1) (ix2 k l) := by
  have e : V m c main_v0 = transpose S128x128 [1, 0] (m ((c : Thread nD τ).loc main_arg1)) transposes_S128x128_S128x128_1_0 := by
    unfold V hostOps0; after_results
  rw [e]
  exact transpose_apply _ _ _ _ _ fun b => match b with | ⟨0, _⟩ => rfl | ⟨1, _⟩ => rfl

/-- So are the second layer's. -/
theorem V_w2 (k j : Fin 128) : V m c main_v1 (ix2 k j) = m ((c : Thread nD τ).loc main_arg3) (ix2 j k) := by
  have e : V m c main_v1 = transpose S128x128 [1, 0] (m ((c : Thread nD τ).loc main_arg3)) transposes_S128x128_S128x128_1_0 := by
    unfold V hostOps0; after_results
  rw [e]
  exact transpose_apply _ _ _ _ _ fun b => match b with | ⟨0, _⟩ => rfl | ⟨1, _⟩ => rfl

/-- The first bias, as the grid finds it, is a one-row matrix. -/
theorem V_b1 (k : Fin 128) : V m c main_v2 (ix2 0 k) = m ((c : Thread nD τ).loc main_arg2) (ix1 k) := by
  have e : V m c main_v2 = shapeCast S1x128 (m ((c : Thread nD τ).loc main_arg2)) shapeCasts_S128_S1x128 := by
    unfold V hostOps0; after_results
    rfl
  rw [e]
  exact shapeCast_a_1a_apply _ _ _ _

/-- So is the second. -/
theorem V_b2 (k : Fin 128) : V m c main_v3 (ix2 0 k) = m ((c : Thread nD τ).loc main_arg4) (ix1 k) := by
  have e : V m c main_v3 = shapeCast S1x128 (m ((c : Thread nD τ).loc main_arg4)) shapeCasts_S128_S1x128 := by
    unfold V hostOps0; after_results
    rfl
  rw [e]
  exact shapeCast_a_1a_apply _ _ _ _

/-! ### The blocks a grid step is given -/

/-- Which block each window reads or writes at a step: blocks of rows of `x` and of the result, else the one block. -/
theorem idx_facts : ∀ t : Fin cfg0.N,
    win0_0.index t = ![t.val, 0] ∧ win0_1.index t = ![0, 0] ∧ win0_2.index t = ![0, 0] ∧ win0_3.index t = ![0, 0]
      ∧ win0_4.index t = ![0, 0] ∧ win0_5.index t = ![t.val, 0] :=
  (by decide +kernel : ∀ t : Fin grid0.N, _)

/-- Row `r` of step `t`'s block is row `20000·t + r` of the array. -/
def row (t : Fin cfg0.N) (r : Fin 20000) : Fin 100000 :=
  ⟨t.val * 20000 + r.val, by have h : t.val < 5 := t.isLt; have := r.isLt; omega⟩

theorem iblk_x (t : Fin cfg0.N) (r : Fin 20000) (l : Fin 128) :
    iblk m c 0 t (ix2 r l) = m ((c : Thread nD τ).loc main_arg0) (ix2 (row t r) l) := by
  refine Eq.trans ?_ (congrFun (V_main_arg0 m c) _)
  have h := (idx_facts t).1
  blk_ext [iblk, row, h]

theorem iblk_w1 (t : Fin cfg0.N) (l k : Fin 128) :
    iblk m c 1 t (ix2 l k) = m ((c : Thread nD τ).loc main_arg1) (ix2 k l) := by
  refine Eq.trans ?_ (V_w1 m c l k)
  have h := (idx_facts t).2.1
  blk_ext [iblk, h]

theorem iblk_b1 (t : Fin cfg0.N) (k : Fin 128) :
    iblk m c 2 t (ix2 0 k) = m ((c : Thread nD τ).loc main_arg2) (ix1 k) := by
  refine Eq.trans ?_ (V_b1 m c k)
  have h := (idx_facts t).2.2.1
  blk_ext [iblk, h]

theorem iblk_w2 (t : Fin cfg0.N) (k j : Fin 128) :
    iblk m c 3 t (ix2 k j) = m ((c : Thread nD τ).loc main_arg3) (ix2 j k) := by
  refine Eq.trans ?_ (V_w2 m c k j)
  have h := (idx_facts t).2.2.2.1
  blk_ext [iblk, h]

theorem iblk_b2 (t : Fin cfg0.N) (j : Fin 128) :
    iblk m c 4 t (ix2 0 j) = m ((c : Thread nD τ).loc main_arg4) (ix1 j) := by
  refine Eq.trans ?_ (V_b2 m c j)
  have h := (idx_facts t).2.2.2.2.1
  blk_ext [iblk, h]

/-! ### The result -/

/-- `mlp` of the five arguments as launched. -/
abbrev result : Buf (Elt Ideal) ((c : Thread nD τ).loc main_v4) :=
  mlp (n := 100000) (d := 128) (h := 128) (o := 128) (m ((c : Thread nD τ).loc main_arg0)) (m ((c : Thread nD τ).loc main_arg1)) (m ((c : Thread nD τ).loc main_arg2))
    (m ((c : Thread nD τ).loc main_arg3)) (m ((c : Thread nD τ).loc main_arg4))

/-- Entry `(r, j)` of what step `t` stores is row `20000·t + r`, column `j` of `mlp`. -/
theorem step_value (t : Fin cfg0.N) (r : Fin 20000) (j : Fin 128) :
    k0_pay1 (F := Ideal) (iblk m c 0 t) (iblk m c 1 t) (iblk m c 2 t) (iblk m c 3 t) (iblk m c 4 t) (ix2 r j)
      = result m c (ix2 (row t r) j) := by
  refine (pay_apply _ _ _ _ _ r j).trans ?_
  show _ = out _ _ _ _ _ (row t r) j
  unfold out hidden
  refine congrArg₂ (· + ·) (Finset.sum_congr rfl fun k _ => congrArg₂ (· * ·) (congrArg₂ max (congrArg₂ (· + ·)
    (Finset.sum_congr rfl fun l _ => ?_) (iblk_b1 m c t k)) rfl) (iblk_w2 m c t k j)) (iblk_b2 m c t j)
  exact congrArg₂ (· * ·) (iblk_x m c t r l) (iblk_w1 m c t l k)

/-- The one store of a step covers its block, and its loads read whole blocks. -/
theorem out_eq (x0 : Vec Ideal S20000x128 .f32) (x1 : Vec Ideal S128x128 .f32) (x2 : Vec Ideal S1x128 .f32)
    (x3 : Vec Ideal S128x128 .f32) (x4 : Vec Ideal S1x128 .f32) :
    out0_5 x0 x1 x2 x3 x4 = k0_pay1 x0 x1 x2 x3 x4 := by
  have hz : (![0, 0] : Fin 2 → Nat) = fun _ => 0 := funext fun a => by fin_cases a <;> rfl
  unfold out0_5
  rw [View.canon_unit_zero (S := S20000x128) hz, View.ld_unit_zero (S := S20000x128) hz, View.ld_unit_zero (S := S128x128) hz,
    View.ld_unit_zero (S := S1x128) hz, View.ld_unit_zero (S := S128x128) hz, View.ld_unit_zero (S := S1x128) hz]

/-- THE ARRAY: after the run the kernel's result is `mlp` of its arguments. -/
theorem kernel_out : (dats m 0 c).arrAt 5 cfg0.N = result m c := by
  refine (dats m 0 c).arrAt_eq_of_covers 5 _ (by decide +kernel) fun t hf y => ?_
  have h := (idx_facts t).2.2.2.2.2
  have hy : (y : S20000x128.Idx) = ix2 (y 0) (y 1) := eq_ix2 y
  rw [after0_5, out_eq]
  refine (congrArg _ hy).trans ((step_value m c t (y 0) (y 1)).trans (congrArg (result m c) ?_))
  blk_ext [row, h]

end Cert.Proof.Mlp

end
-- ==== Proof.Mlp.Reference.lean ====
/-
  The reference program's result, over the extended reals, is the two-layer perceptron `mlp` of its arguments.
-/
module

public import proofs.«01_k».proof.Proof.Gen.ReferenceIdeal.Read
public import proofs.«01_k».proof.Proof.Mlp.Spec

@[expose] public section

noncomputable section

namespace Cert.Proof.Mlp

open Idealize.ShloMosaic Idealize.ShloMosaic.ValueIdx
open Cert.ReferenceIdeal Cert.ReferenceIdeal.Read
open scoped BigOperators

variable (x : FVec Ideal S100000x128 .f32) (W1 : FVec Ideal S128x128 .f32) (b1 : FVec Ideal S128 .f32)
  (W2 : FVec Ideal S128x128 .f32) (b2 : FVec Ideal S128 .f32)

/-- The reference's hidden activation at row `r` and unit `k`. -/
theorem ref_hidden (r : Fin 100000) (k : Fin 128) :
    val_main_v6 (F := Ideal) x W1 b1 (ix2 r k) = hidden x W1 b1 r k := by
  rw [val_main_v6_apply, val_main_v4_apply, val_main_v1_apply, val_main_v3_apply, val_main_v2_apply, val_main_v5_apply,
    val_main_cst_apply]
  unfold hidden
  refine congrArg₂ max (congrArg₂ (· + ·) (Finset.sum_congr rfl fun l _ => ?_) ?_) Ideal.ofBits_zero_f32
  · rw [val_main_v0_apply]
    exact congrArg₂ (· * ·) (congrArg x (Shape.idx_ext₂ rfl rfl)) (congrArg W1 (Shape.idx_ext₂ rfl rfl))
  · exact congrArg b1 (eq_ix1 _)

/-- The reference's result array is `mlp` of its arguments. -/
theorem ref_out : val_main_v11 (F := Ideal) x W1 b1 W2 b2 = mlp x W1 b1 W2 b2 := by
  funext i
  rw [val_main_v11_apply, val_main_v8_apply, val_main_v10_apply, val_main_v9_apply]
  show _ = out x W1 b1 W2 b2 (i 0) (i 1)
  unfold out
  refine congrArg₂ (· + ·) (Finset.sum_congr rfl fun k _ => ?_) (congrArg b2 (eq_ix1 _))
  rw [val_main_v7_apply]
  exact congrArg₂ (· * ·) ((congrArg (val_main_v6 (F := Ideal) x W1 b1) (Shape.idx_ext₂ (x := lidx_main_v8 i k) (y := ix2 (i 0) k) rfl rfl)).trans
    (ref_hidden x W1 b1 (i 0) k))
    (congrArg W2 (Shape.idx_ext₂ rfl rfl))

end Cert.Proof.Mlp

end
-- ==== Proof.lean ====
/-
  The five claims about the two-layer perceptron kernel: both kernel programs and the reference terminate without fault,
  leave their arguments unchanged and every semaphore counter at zero; the ideal kernel is the kernel's own text; and over
  the extended reals kernel and reference compute the same array, `Cert.Proof.Mlp.mlp` of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Mlp.Array
public import proofs.«01_k».proof.Proof.Mlp.Reference
public import Idealize.ShloMosaic.Adequacy
public import Idealize.ShloMosaic.Init

@[expose] public section

noncomputable section

namespace Cert.Proof

open Idealize.ShloMosaic Idealize.ShloMosaic.TcCoe Idealize.SL.Sem

/-- The reference terminates, leaves its arguments unchanged and every semaphore counter at zero. -/
theorem frame_reference : quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run m ρ)

/-- Over the extended reals the kernel's result and the reference's are the same function of the arguments: from memories
    that agree on the arguments both results are `mlp` of them. -/
theorem algebraic : algebraic_KernelIdeal_ReferenceIdeal (hKernelIdeal := Cert.KernelIdeal.Gen.facts)
    (hReferenceIdeal := Cert.ReferenceIdeal.Gen.facts) := by
  intro m ρ m' ρ' _ hargs
  refine ⟨fun c => Mlp.result m c, ?_, ?_⟩
  · exact (θ_run _ _ _).mono (fun r h c => ⟨(h c).1.trans (Mlp.kernel_out m c), (h c).2⟩)
      (Cert.KernelIdeal.Value.run_blocks (F := Ideal) m ρ)
  · refine (θ_run _ _ _).mono (fun r h c => ⟨(h c).1.trans ?_, (h c).2⟩) (Cert.ReferenceIdeal.Value.run (F := Ideal) m' ρ')
    obtain ⟨h0, h1, h2, h3, h4⟩ := hargs c
    refine ((Cert.ReferenceIdeal.Read.val_main_v11_eq _ _ _ _ _).trans (Mlp.ref_out _ _ _ _ _)).trans ?_
    rw [h0, h1, h2, h3, h4]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
